-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x7168 : Shape := ⟨3, ![2, 8192, 7168]⟩
abbrev S7168x18432 : Shape := ⟨2, ![7168, 18432]⟩
abbrev S28x18432 : Shape := ⟨2, ![28, 18432]⟩
abbrev S_ : Shape := ⟨0, ![]⟩

class Facts : Prop where
  bitsLt_bf16_f32 : FTy.bits .bf16 < FTy.bits .f32
  bcast_S_S2x8192x7168 : S_.BroadcastsInDim S2x8192x7168 (![] : Fin 0 → Fin S2x8192x7168.rank)
  reducesTo_S2x8192x7168_S_d0_1_2 : S2x8192x7168.ReducesTo [0, 1, 2] S_
  h_S_ : 0 < S_.numel

variable [Facts]

def fn {F : FTy → Type} [FloatOps F] (main_arg0 : FVec F S2x8192x7168 .bf16) (main_arg1 : FVec F S7168x18432 .fp8e4m3) (main_arg2 : FVec F S28x18432 .f32) : IVec S_ 1 :=
  let main_v0 : FVec F S2x8192x7168 .f32 := (extf .f32 · bitsLt_bf16_f32) main_arg0
  let main_v1 : FVec F S2x8192x7168 .f32 := Host.absf main_v0
  let main_cst : FVec F S_ .f32 := constant S_ .f32 0x7F7F0000#32
  let main_v2 : FVec F S2x8192x7168 .f32 := broadcastInDim S2x8192x7168 ![] bcast_S_S2x8192x7168 main_cst
  let main_v3 : IVec S2x8192x7168 1 := cmpf .ole main_v1 main_v2
  let main_c : IVec S_ 1 := constantI S_ 1 1#1
  let main_v4 : IVec S_ 1 := (fun x v => Host.reduce IntOp.andi x v reducesTo_S2x8192x7168_S_d0_1_2 h_S_) main_v3 main_c
  main_v4
-- ==== Kernel.lean ====
abbrev S2x8192x7168 : Shape := ⟨3, ![2, 8192, 7168]⟩
abbrev S7168x18432 : Shape := ⟨2, ![7168, 18432]⟩
abbrev S28x18432 : Shape := ⟨2, ![28, 18432]⟩
abbrev S16384x7168 : Shape := ⟨2, ![16384, 7168]⟩
abbrev S16384x28 : Shape := ⟨2, ![16384, 28]⟩
abbrev S256x7168 : Shape := ⟨2, ![256, 7168]⟩
abbrev S256x28 : Shape := ⟨2, ![256, 28]⟩
abbrev S256x256 : Shape := ⟨2, ![256, 256]⟩
abbrev S256 : Shape := ⟨1, ![256]⟩
abbrev S256x1 : Shape := ⟨2, ![256, 1]⟩
abbrev S1x255 : Shape := ⟨2, ![1, 255]⟩
abbrev S256x255 : Shape := ⟨2, ![256, 255]⟩
abbrev S16384x18432 : Shape := ⟨2, ![16384, 18432]⟩
abbrev S1024x7168 : Shape := ⟨2, ![1024, 7168]⟩
abbrev S7168x512 : Shape := ⟨2, ![7168, 512]⟩
abbrev S28x512 : Shape := ⟨2, ![28, 512]⟩
abbrev S1024x512 : Shape := ⟨2, ![1024, 512]⟩
abbrev S256x512 : Shape := ⟨2, ![256, 512]⟩
abbrev S1x512 : Shape := ⟨2, ![1, 512]⟩
abbrev S2x8192x18432 : Shape := ⟨3, ![2, 8192, 18432]⟩
abbrev S2x8192x28 : Shape := ⟨3, ![2, 8192, 28]⟩

abbrev nBuf : Space → Nat
  | .hbm => 11
  | .vmem => 17
  | .smem => 0
  | _ => 0

abbrev bufTy : (tb : Table) → Fin (tcTables nBuf tb) → BufTy
  | .hbm, ⟨0, _⟩ => ⟨S2x8192x7168, .bf16⟩
  | .hbm, ⟨1, _⟩ => ⟨S7168x18432, .fp8e4m3⟩
  | .hbm, ⟨2, _⟩ => ⟨S28x18432, .f32⟩
  | .hbm, ⟨3, _⟩ => ⟨S16384x7168, .bf16⟩
  | .hbm, ⟨4, _⟩ => ⟨S16384x7168, .fp8e4m3⟩
  | .hbm, ⟨5, _⟩ => ⟨S16384x28, .f32⟩
  | .hbm, ⟨6, _⟩ => ⟨S16384x7168, .bf16⟩
  | .hbm, ⟨7, _⟩ => ⟨S16384x18432, .bf16⟩
  | .hbm, ⟨8, _⟩ => ⟨S2x8192x18432, .bf16⟩
  | .hbm, ⟨9, _⟩ => ⟨S2x8192x7168, .fp8e4m3⟩
  | .hbm, ⟨10, _⟩ => ⟨S2x8192x28, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x28, .f32⟩
  | .local _ .vmem, ⟨5, _⟩ => ⟨S256x28, .f32⟩
  | .local _ .vmem, ⟨6, _⟩ => ⟨S256x7168, .bf16⟩
  | .local _ .vmem, ⟨7, _⟩ => ⟨S256x7168, .bf16⟩
  | .local _ .vmem, ⟨8, _⟩ => ⟨S1024x7168, .bf16⟩
  | .local _ .vmem, ⟨9, _⟩ => ⟨S1024x7168, .bf16⟩
  | .local _ .vmem, ⟨10, _⟩ => ⟨S7168x512, .fp8e4m3⟩
  | .local _ .vmem, ⟨11, _⟩ => ⟨S7168x512, .fp8e4m3⟩
  | .local _ .vmem, ⟨12, _⟩ => ⟨S28x512, .f32⟩
  | .local _ .vmem, ⟨13, _⟩ => ⟨S28x512, .f32⟩
  | .local _ .vmem, ⟨14, _⟩ => ⟨S1024x512, .bf16⟩
  | .local _ .vmem, ⟨15, _⟩ => ⟨S1024x512, .bf16⟩
  | .local _ .vmem, ⟨16, _⟩ => ⟨S7168x512, .bf16⟩
  | _, _ => ⟨S2x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 36], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S7168x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S28x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S2x8192x7168 : Shape := ⟨3, ![2, 8192, 7168]⟩
abbrev S7168x18432 : Shape := ⟨2, ![7168, 18432]⟩
abbrev S28x18432 : Shape := ⟨2, ![28, 18432]⟩
abbrev S16384x7168 : Shape := ⟨2, ![16384, 7168]⟩
abbrev S16384x18432 : Shape := ⟨2, ![16384, 18432]⟩
abbrev S16384x28 : Shape := ⟨2, ![16384, 28]⟩
abbrev S16384x28x256 : Shape := ⟨3, ![16384, 28, 256]⟩
abbrev S16384x28x1 : Shape := ⟨3, ![16384, 28, 1]⟩
abbrev S28x256x18432 : Shape := ⟨3, ![28, 256, 18432]⟩
abbrev S28x1x18432 : Shape := ⟨3, ![28, 1, 18432]⟩
abbrev S2x8192x18432 : Shape := ⟨3, ![2, 8192, 18432]⟩
abbrev S2x8192x28 : Shape := ⟨3, ![2, 8192, 28]⟩

abbrev nBuf : Space → Nat
  | .hbm => 10
  | .vmem => 6
  | .smem => 0
  | _ => 0

abbrev bufTy : (tb : Table) → Fin (tcTables nBuf tb) → BufTy
  | .hbm, ⟨0, _⟩ => ⟨S2x8192x7168, .bf16⟩
  | .hbm, ⟨1, _⟩ => ⟨S7168x18432, .fp8e4m3⟩
  | .hbm, ⟨2, _⟩ => ⟨S28x18432, .f32⟩
  | .hbm, ⟨3, _⟩ => ⟨S16384x7168, .bf16⟩
  | .hbm, ⟨4, _⟩ => ⟨S16384x18432, .bf16⟩
  | .hbm, ⟨5, _⟩ => ⟨S16384x7168, .fp8e4m3⟩
  | .hbm, ⟨6, _⟩ => ⟨S16384x28, .f32⟩
  | .hbm, ⟨7, _⟩ => ⟨S2x8192x18432, .bf16⟩
  | .hbm, ⟨8, _⟩ => ⟨S2x8192x7168, .fp8e4m3⟩
  | .hbm, ⟨9, _⟩ => ⟨S2x8192x28, .f32⟩
  | .local _ .vmem, ⟨0, _⟩ => ⟨S16384x7168, .bf16⟩
  | .local _ .vmem, ⟨1, _⟩ => ⟨S7168x18432, .fp8e4m3⟩
  | .local _ .vmem, ⟨2, _⟩ => ⟨S28x18432, .f32⟩
  | .local _ .vmem, ⟨3, _⟩ => ⟨S16384x18432, .bf16⟩
  | .local _ .vmem, ⟨4, _⟩ => ⟨S16384x7168, .fp8e4m3⟩
  | .local _ .vmem, ⟨5, _⟩ => ⟨S16384x28, .f32⟩
  | _, _ => ⟨S2x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16384x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scalar.lean ====
module

public import Idealize.ShloMosaic.Lib.Pipeline.ValueKit
public import Idealize.ShloMosaic.PureOps.Ideal

/-! The exponent of the quantiser, on one number.

The kernel finds the exponent of a group's scale by counting the powers of two that are at most `t`; the
reference takes the floor of the base-two logarithm.  This file shows that the two give the same scale and the
same inverse scale for every `0 ≤ t < 2 ^ 126`. -/

@[expose] public section

set_option maxRecDepth 16384

noncomputable section

namespace Cert.Quant

open Idealize.ShloMosaic

/-- The float whose exponent field is `k` and whose fraction is zero. -/
def pw (k : Nat) : EReal := Ideal.ofBits .f32 (IntOp.shli .vector (BitVec.ofNat 32 k) 23#32)

/-- The three fields of the word `k · 2²³`. -/
theorem pw_fields : ∀ k : Fin 256,
    (((IntOp.shli .vector (BitVec.ofNat 32 k.val) 23#32).extractLsb' 31 1 == 1#1) = false)
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- With field `k` between 1 and 254 that float is the power of two `2 ^ (k - 127)`. -/
theorem pw_eq (k : Nat) (h1 : 1 ≤ k) (h2 : k ≤ 254) : pw k = (((2 : ℝ) ^ ((k : ℤ) - 127) : ℝ) : EReal) := by
  obtain ⟨a, b, c⟩ := pw_fields ⟨k, by omega⟩
  have h255 : ¬ (k = 2 ^ 8 - 1) := by omega
  have h0 : ¬ (k = 0) := by omega
  have e : pw k = (((1 : ℝ) * ((2 ^ 23 + 0 : ℕ) : ℝ) * (2 : ℝ) ^ ((k : ℤ) - (2 ^ (8 - 1) - 1) - (23 : ℕ)) : ℝ) : EReal) := by
    unfold pw
    show Ideal.ieee 8 23 _ = _
    unfold Ideal.ieee
    dsimp only at a b c ⊢
    rw [a, b, c, if_neg h255, if_neg h0]
    rfl
  rw [e, EReal.coe_eq_coe_iff,
    show ((k : ℤ) - (2 ^ (8 - 1) - 1) - (23 : ℕ)) = ((k : ℤ) - 127) + (-23) by norm_num; ring,
    zpow_add₀ (by norm_num : (2 : ℝ) ≠ 0)]
  have e23 : (2 : ℝ) ^ (-23 : ℤ) = 1 / 8388608 := by norm_num
  rw [e23]
  push_cast
  ring

/-- With field 255 it is plus infinity. -/
theorem pw_255 : pw 255 = ⊤ := by
  obtain ⟨a, b, c⟩ := pw_fields ⟨255, by omega⟩
  simp only [] at a b c
  simp [pw, Ideal.ofBits, Ideal.ieee, a, b, c]

/-- The kernel's exponent field of `t`: how many of the floats with fields 1 to 255 are at most `t`. -/
def field (t : EReal) : BitVec 32 :=
  Finset.fold IntOp.addi 0#32 (fun x : Fin 255 =>
    if Ideal.ofBits .f32 (IntOp.shli .vector (IntOp.addi (BitVec.ofNat 32 x.val) 1#32) 23#32) ≤ t then 1#32 else 0#32)
    Finset.univ

/-- The kernel's exponent: the field less 126, and 0 for the two extreme fields. -/
def kexp (t : EReal) : BitVec 32 :=
  Scalar.select (IntOp.ori (IntOp.cmpi .eq (field t) 0#32) (IntOp.cmpi .eq (field t) 255#32)) 0#32
    (IntOp.subi (field t) 126#32)

/-- The reference's exponent: 0 below the smallest normal number, else one more than the floor of the base-two
    logarithm. -/
def rexp (t : EReal) : EReal :=
  if t < Ideal.ofBits .f32 0x00800000#32 then Ideal.ofBits .f32 0x00000000#32
  else Ideal.liftRound Int.floor (Ideal.div (Ideal.log t) ((Real.log 2 : ℝ) : EReal)) + Ideal.ofBits .f32 0x3F800000#32

/-- The largest absolute value of a group of 256 numbers. -/
def amax (r : Fin 256 → EReal) : EReal :=
  Finset.fold max (Ideal.ofBits .f32 0xFF800000#32) (fun k => max (r k) (-(r k))) Finset.univ

/-- The largest absolute value times the rounded reciprocal of 448. -/
def tmax (r : Fin 256 → EReal) : EReal := amax r * Ideal.ofBits .f32 0x3B124925#32

/-- The scale whose exponent is the kernel's exponent of `t`. -/
def kscale (t : EReal) : EReal := Ideal.ofBits .f32 (IntOp.shli .vector (IntOp.addi 127#32 (kexp t)) 23#32)

/-- The inverse scale whose exponent is minus the kernel's exponent of `t`. -/
def kinv (t : EReal) : EReal := Ideal.ofBits .f32 (IntOp.shli .vector (IntOp.subi 127#32 (kexp t)) 23#32)

/-- The code of `x`: `x` times the inverse scale, clipped to plus or minus 448. -/
def code (x i : EReal) : EReal :=
  min (Ideal.ofBits .f32 0x43E00000#32) (max (Ideal.ofBits .f32 0xC3E00000#32) (x * i))

/-- Each number `n` below 256: adding one to a count, once for each power of two up to `n`, gives `n`. -/
theorem count_le : ∀ n : Fin 256,
    Finset.fold IntOp.addi 0#32 (fun x : Fin 255 => if x.val + 1 ≤ n.val then 1#32 else 0#32) Finset.univ
      = BitVec.ofNat 32 n.val := by
  decide +kernel

/-- Adding one to the word of `x` gives the word of `x + 1`. -/
theorem succ_word : ∀ x : Fin 255, IntOp.addi (BitVec.ofNat 32 x.val) 1#32 = BitVec.ofNat 32 (x.val + 1) := by
  decide +kernel

/-- If the floats at most `t` are exactly those with field at most `n`, the count is `n`. -/
theorem field_eq (t : EReal) (n : Nat) (hn : n ≤ 255) (h : ∀ k, 1 ≤ k → k ≤ 255 → (pw k ≤ t ↔ k ≤ n)) :
    field t = BitVec.ofNat 32 n := by
  rw [← count_le ⟨n, by omega⟩]
  unfold field
  refine Finset.fold_congr fun x _ => ?_
  rw [succ_word]
  have := h (x.val + 1) (by omega) (by omega)
  unfold pw at this
  simp only [this]

/-- The f32 word of the smallest normal number is `2 ^ (-126)`. -/
theorem smallest_normal : Ideal.ofBits .f32 0x00800000#32 = (((2 : ℝ) ^ (-126 : ℤ) : ℝ) : EReal) := by
  have h := pw_eq 1 (by omega) (by omega)
  rw [show pw 1 = Ideal.ofBits .f32 0x00800000#32 from by unfold pw; rw [show IntOp.shli .vector (BitVec.ofNat 32 1) 23#32 = 0x00800000#32 by decide +kernel]] at h
  rw [h]; norm_num

/-- The f32 word of one. -/
theorem one_f32 : Ideal.ofBits .f32 0x3F800000#32 = ((1 : ℝ) : EReal) := by
  simp [Ideal.ofBits, Ideal.ieee, -EReal.coe_mul]; norm_num

/-- The f32 word of zero. -/
theorem zero_f32 : Ideal.ofBits .f32 0x00000000#32 = ((0 : ℝ) : EReal) := by
  simp [Ideal.ofBits, Ideal.ieee]

/-- For a field `n` below 253 the kernel exponent is `n - 126`, and 0 when `n` is 0. -/
theorem kexp_of_field : ∀ n : Fin 253, Scalar.select (IntOp.ori (IntOp.cmpi .eq (BitVec.ofNat 32 n.val) 0#32)
      (IntOp.cmpi .eq (BitVec.ofNat 32 n.val) 255#32)) 0#32 (IntOp.subi (BitVec.ofNat 32 n.val) 126#32)
    = if n.val = 0 then 0#32 else BitVec.ofNat 32 n.val - 126#32 := by
  decide +kernel

/-- For that exponent the scale has field `n + 1`, and 127 when `n` is 0. -/
theorem scale_word : ∀ n : Fin 253, IntOp.addi 127#32 (if n.val = 0 then 0#32 else BitVec.ofNat 32 n.val - 126#32)
    = BitVec.ofNat 32 (if n.val = 0 then 127 else n.val + 1) := by
  decide +kernel

/-- For that exponent the inverse scale has field `253 - n`, and 127 when `n` is 0. -/
theorem inv_word : ∀ n : Fin 253, IntOp.subi 127#32 (if n.val = 0 then 0#32 else BitVec.ofNat 32 n.val - 126#32)
    = BitVec.ofNat 32 (if n.val = 0 then 127 else 253 - n.val) := by
  decide +kernel

/-- For every `0 ≤ t < 2 ^ 126` there is an integer `e` that both exponents stand for. -/
theorem exponents (t : EReal) (h0 : 0 ≤ t) (h1 : t < (((2 : ℝ) ^ (126 : ℤ) : ℝ) : EReal)) :
    ∃ n : Fin 253, field t = BitVec.ofNat 32 n.val
      ∧ rexp t = (((if n.val = 0 then 0 else (n.val : ℤ) - 126 : ℤ) : ℝ) : EReal) := by
  induction t using EReal.rec with
  | bot => simp at h0
  | top => simp at h1
  | coe r =>
    rw [EReal.coe_lt_coe_iff] at h1
    have hl2 : 0 < Real.log 2 := Real.log_pos (by norm_num)
    by_cases hs : r < (2 : ℝ) ^ (-126 : ℤ)
    · refine ⟨⟨0, by omega⟩, field_eq _ 0 (by omega) fun k hk1 hk2 => ?_, ?_⟩
      · constructor
        · intro h
          exfalso
          rcases Nat.lt_or_ge k 255 with hk | hk
          · rw [pw_eq k hk1 (by omega), EReal.coe_le_coe_iff] at h
            have : (2 : ℝ) ^ (-126 : ℤ) ≤ (2 : ℝ) ^ ((k : ℤ) - 127) := zpow_le_zpow_right₀ (by norm_num) (by omega)
            linarith
          · rw [show k = 255 by omega, pw_255] at h
            simp at h
        · intro h; omega
      · unfold rexp
        rw [smallest_normal, if_pos (EReal.coe_lt_coe_iff.2 hs), zero_f32]
        simp
    · have hr : (2 : ℝ) ^ (-126 : ℤ) ≤ r := not_lt.1 hs
      have hrpos : 0 < r := lt_of_lt_of_le (by positivity) hr
      have key : ∀ j : ℤ, (2 : ℝ) ^ j ≤ r ↔ j ≤ ⌊Real.log r / Real.log 2⌋ := by
        intro j
        rw [Int.le_floor, le_div_iff₀ hl2, ← Real.log_zpow, Real.log_le_log_iff (by positivity) hrpos]
      have hz1 : -126 ≤ ⌊Real.log r / Real.log 2⌋ := (key _).1 hr
      have hz2 : ⌊Real.log r / Real.log 2⌋ < 126 := by
        by_contra h
        have := (key 126).2 (not_lt.1 h)
        linarith
      generalize hz : ⌊Real.log r / Real.log 2⌋ = z at *
      obtain ⟨n, hn⟩ : ∃ n : ℕ, (n : ℤ) = z + 127 := ⟨(z + 127).toNat, by omega⟩
      refine ⟨⟨n, by omega⟩, field_eq _ n (by omega) fun k hk1 hk2 => ?_, ?_⟩
      · rcases Nat.lt_or_ge k 255 with hk | hk
        · rw [pw_eq k hk1 (by omega), EReal.coe_le_coe_iff, key]
          omega
        · rw [show k = 255 by omega, pw_255]
          simp only [top_le_iff, EReal.coe_ne_top, false_iff]
          omega
      · unfold rexp
        rw [smallest_normal, if_neg (by rw [EReal.coe_lt_coe_iff]; exact hs), one_f32]
        have e1 : Ideal.log (r : EReal) = ((Real.log r : ℝ) : EReal) := by
          show (if r ≤ 0 then ⊥ else (Real.log r : EReal)) = _
          rw [if_neg (not_le.2 hrpos)]
        rw [e1]
        have e2 : Ideal.div ((Real.log r : ℝ) : EReal) ((Real.log 2 : ℝ) : EReal) = ((Real.log r / Real.log 2 : ℝ) : EReal) := by
          unfold Ideal.div
          rw [if_neg (by rw [EReal.coe_eq_zero]; exact hl2.ne'), div_eq_mul_inv, EReal.coe_mul, EReal.coe_inv]
        rw [e2]
        show (((⌊Real.log r / Real.log 2⌋ : ℤ) : ℝ) : EReal) + _ = _
        rw [hz, ← EReal.coe_add, if_neg (by simp only []; omega)]
        congr 1
        simp only []
        rw [hn]; push_cast; ring

/-- Two to an integer power is the ordinary power. -/
theorem exp2_int (e : ℤ) : Ideal.exp2 (((e : ℝ)) : EReal) = (((2 : ℝ) ^ e : ℝ) : EReal) := by
  show ((Real.rpow 2 (e : ℝ) : ℝ) : EReal) = _
  congr 1
  exact Real.rpow_intCast 2 e

/-- The kernel's scale is two to the reference's exponent. -/
theorem scale_eq (t : EReal) (h0 : 0 ≤ t) (h1 : t < (((2 : ℝ) ^ (126 : ℤ) : ℝ) : EReal)) :
    kscale t = Ideal.exp2 (rexp t) := by
  obtain ⟨n, hf, hr⟩ := exponents t h0 h1
  unfold kscale kexp
  rw [hf, kexp_of_field, scale_word, hr, exp2_int]
  have hn := n.isLt
  refine (pw_eq _ ?_ ?_).trans ?_
  · split <;> omega
  · split <;> omega
  · congr 2
    split <;> omega

/-- The kernel's inverse scale is two to minus the reference's exponent. -/
theorem inv_eq (t : EReal) (h0 : 0 ≤ t) (h1 : t < (((2 : ℝ) ^ (126 : ℤ) : ℝ) : EReal)) :
    kinv t = Ideal.exp2 (-(rexp t)) := by
  obtain ⟨n, hf, hr⟩ := exponents t h0 h1
  unfold kinv kexp
  rw [hf, kexp_of_field, inv_word, hr, ← EReal.coe_neg, ← Int.cast_neg, exp2_int]
  have hn := n.isLt
  refine (pw_eq _ ?_ ?_).trans ?_
  · split <;> omega
  · split <;> omega
  · congr 2
    split <;> omega

end Cert.Quant

end
-- ==== Proof.RefBody.lean ====
module

public import proofs.«01_k».proof.Proof.Gen.ReferenceIdeal.Frame
public import proofs.«01_k».proof.Proof.Scalar
public import Idealize.ShloMosaic.Lib.Pipeline.ValueKit

/-! What the reference computes, element by element. -/

@[expose] public section

set_option maxRecDepth 16384

noncomputable section

namespace Cert.ReferenceIdeal.Value

open Idealize.ShloMosaic Idealize.ShloMosaic.TcCoe Idealize.SL.Sem Cert.ReferenceIdeal.Gen Cert.Quant

/-- Entry `k` of group `g` of a row of the input. -/
theorem pay3_apply (x0 : Vec Ideal S16384x7168 .bf16) (p : Fin 16384) (g : Fin 28) (k : Fin 256) :
    (k0_pay3 (F := Ideal) x0 (ix3 p g k) : EReal) = x0 (ix2 p ⟨g.val * 256 + k.val, by omega⟩) := by
  unfold k0_pay3
  rw [shapeCast_id]
  pointwise

/-- The exponents from the groups' largest magnitudes. -/
def expG (v5 : FVec Ideal S16384x28 .f32) : FVec Ideal S16384x28 .f32 :=
  have v7 : FVec Ideal S16384x28 .f32 := mulf v5 (broadcast S16384x28 (Scalar.ofBits .f32 0x3B124925#32))
  select (cmpf .olt v7 (broadcast S16384x28 (Scalar.ofBits .f32 0x00800000#32)))
    (broadcast S16384x28 (Scalar.ofBits .f32 0x00000000#32))
    (addf (floor (divf (log v7) (broadcast S16384x28 (Named.named κ "ln2" 0x3F317218#32))))
      (broadcast S16384x28 (Scalar.ofBits .f32 0x3F800000#32)))

/-- The groups' largest magnitudes. -/
def maxG (v3 : FVec Ideal S16384x28x256 .f32) : FVec Ideal S16384x28 .f32 :=
  multiReduction .maximumf [2] S16384x28 (absf v3) 0xFF800000#32 reduces_S16384x28x256_S16384x28 (.inl rfl) rfl

/-- The codes from the input in groups and the exponents. -/
def codeG (v3 : FVec Ideal S16384x28x256 .f32) (e : FVec Ideal S16384x28 .f32) : FVec Ideal S16384x28x256 .fp8e4m3 :=
  truncf .fp8e4m3 (minimumf (broadcast S16384x28x256 (Scalar.ofBits .f32 0x43E00000#32))
    (maximumf (broadcast S16384x28x256 (Scalar.ofBits .f32 0xC3E00000#32))
      (mulf v3 (broadcastTo S16384x28x256
        (shapeCast S16384x28x1 (exp2 (subf (broadcast S16384x28 (Scalar.ofBits .f32 0x00000000#32)) e)) shapeCasts_S16384x28_S16384x28x1)
        broadcasts_S16384x28x1_S16384x28x256)))) bitsLt_fp8e4m3_f32

/-- The codes put back to scale, as rows. -/
def wideG (q : FVec Ideal S16384x28x256 .fp8e4m3) (s : FVec Ideal S16384x28 .f32) : FVec Ideal S16384x7168 .bf16 :=
  shapeCast S16384x7168 (mulf (extf .bf16 q bitsLt_fp8e4m3_bf16)
    (broadcastTo S16384x28x256 (shapeCast S16384x28x1 (truncf .bf16 s bitsLt_bf16_f32) shapeCasts_S16384x28_S16384x28x1)
      broadcasts_S16384x28x1_S16384x28x256)) shapeCasts_S16384x28x256_S16384x7168

/-- The reference exponents, as a function of the group maxima. -/
theorem pay4_eq (x0 : Vec Ideal S16384x7168 .bf16) : k0_pay4 (F := Ideal) x0 = expG (maxG (k0_pay3 x0)) := rfl

/-- The reference codes, as a function of the grouped entries and the exponents. -/
theorem pay6_eq (x0 : Vec Ideal S16384x7168 .bf16) : k0_pay6 (F := Ideal) x0 = codeG (k0_pay3 x0) (k0_pay4 x0) := rfl

/-- The dequantised entries, as a function of the codes and the scales. -/
theorem pay7_eq (x0 : Vec Ideal S16384x7168 .bf16) : k0_pay7 (F := Ideal) x0 = wideG (k0_pay6 x0) (k0_pay5 x0) := rfl

/-- The reference scales are two to the exponents. -/
theorem pay5_eq (x0 : Vec Ideal S16384x7168 .bf16) : k0_pay5 (F := Ideal) x0 = exp2 (k0_pay4 x0) := rfl

/-- Two to the power of an array, entry by entry. -/
theorem exp2_at (e : FVec Ideal S16384x28 .f32) (y : S16384x28.Idx) : (exp2 e y : EReal) = Ideal.exp2 (e y : EReal) := rfl

/-- The exponent of a group, from its maximum. -/
theorem expG_apply (v5 : FVec Ideal S16384x28 .f32) (y : S16384x28.Idx) :
    (expG v5 y : EReal) = rexp ((v5 y : EReal) * Ideal.ofBits .f32 0x3B124925#32) := by
  unfold expG rexp
  rw [zero_f32, one_f32]
  pointwise
  rfl

/-- The maximum of a group: the maximum of the absolute values of its entries. -/
theorem maxG_apply (v3 : FVec Ideal S16384x28x256 .f32) (y : S16384x28.Idx) :
    (maxG v3 y : EReal) = amax fun k => v3 (ix3 (y 0) (y 1) k) := by
  unfold maxG amax
  pointwise
  rfl

/-- The code of an entry, from the entry and the exponent of its group. -/
theorem codeG_apply (v3 : FVec Ideal S16384x28x256 .f32) (e : FVec Ideal S16384x28 .f32) (i : S16384x28x256.Idx) :
    (codeG v3 e i : EReal) = code (v3 i : EReal) (Ideal.exp2 (-(e (ix2 (i 0) (i 1)) : EReal))) := by
  rw [← zero_sub]
  unfold codeG code
  pointwise
  rfl

/-- The codes laid out as rows of 7168: column `j` is entry `j % 256` of group `j / 256`. -/
theorem pay2_apply (q : FVec Ideal S16384x28x256 .fp8e4m3) (p : Fin 16384) (j : Fin 7168) :
    (k0_pay2 (F := Ideal) q (ix2 p j) : EReal) = q (ix3 p ⟨j.val / 256, by omega⟩ ⟨j.val % 256, by omega⟩) := by
  unfold k0_pay2
  pointwise

/-- The dequantised entry in column `j`: its code times the scale of its group. -/
theorem wideG_apply (q : FVec Ideal S16384x28x256 .fp8e4m3) (s : FVec Ideal S16384x28 .f32) (p : Fin 16384) (j : Fin 7168) :
    (wideG q s (ix2 p j) : EReal) = (q (ix3 p ⟨j.val / 256, by omega⟩ ⟨j.val % 256, by omega⟩) : EReal) *
      (s (ix2 p ⟨j.val / 256, by omega⟩) : EReal) := by
  unfold wideG
  pointwise

/-- The scaled weights at an index. -/
theorem pay8_apply (x1 : Vec Ideal S7168x18432 .fp8e4m3) (x2 : Vec Ideal S28x18432 .f32) (k : Fin 7168) (n : Fin 18432) :
    (k0_pay8 (F := Ideal) x1 x2 (ix2 k n) : EReal) = (x1 (ix2 k n) : EReal) * (x2 (ix2 ⟨k.val / 256, by omega⟩ n) : EReal) := by
  unfold k0_pay8
  pointwise

/-- The product at an index. -/
theorem pay1_apply (a : Vec Ideal S16384x7168 .bf16) (b : Vec Ideal S7168x18432 .bf16) (y : S16384x18432.Idx) :
    (k0_pay1 (F := Ideal) a b y : EReal) = ∑ k : Fin 7168, (a (ix2 (y 0) k) : EReal) * (b (ix2 k (y 1)) : EReal) := by
  unfold k0_pay1
  pointwise

end Cert.ReferenceIdeal.Value

end
-- ==== Proof.Blocks.lean ====
module

public import proofs.«01_k».proof.Proof.Gen.KernelIdeal.Frame
public import proofs.«01_k».proof.Proof.Scalar
public import Idealize.ShloMosaic.Lib.Pipeline.ValueKit

/-! What one grid point of the quantiser writes, element by element.

Each of the 28 groups of a 256-row block is stored from the same function of the group's 256 columns. -/

@[expose] public section

set_option maxRecDepth 16384

noncomputable section

namespace Cert.KernelIdeal.Value

open Idealize.ShloMosaic Idealize.SL.Sem Cert.KernelIdeal.Gen Cert.Quant

section Generic
variable {F : FTy → Type} [FloatOps F]

/-- The codes of one group of 256 columns. -/
def codesB (v : Vec F S256x256 .bf16) : Vec F S256x256 .fp8e4m3 := k0_pay8 (k0_pay4 v) (k0_pay7 v)
/-- The scales of one group of 256 columns. -/
def scaleB (v : Vec F S256x256 .bf16) : Vec F S256x1 .f32 := k0_pay6 v
/-- Codes times scale of one group of 256 columns. -/
def wideB (v : Vec F S256x256 .bf16) : Vec F S256x256 .bf16 := k0_pay9 (k0_pay4 v) (k0_pay6 v) (k0_pay7 v)

/-- Where the `k`-th store, counted from the last, puts its block. -/
def off (k : Fin 28) : Fin S256x7168.rank → Nat := ![0, 256 * (27 - k.val)]

/-- Each group of 256 columns lies inside the block of 7168 columns. -/
theorem off_inb (k : Fin 28) (a : Fin S256x7168.rank) : off k a + S256x256.size a ≤ S256x7168.size a := by
  match a with
  | 0 => exact Nat.le_refl _
  | 1 => show 256 * (27 - k.val) + 256 ≤ 7168; omega

/-- The rectangle of the `k`-th store. -/
abbrev rect (k : Fin 28) : Rect S256x7168 := Rect.unit (s := S256x7168) (off k) S256x256.size (off_inb k)

/-- The block of codes is the 28 groups of codes written side by side. -/
theorem out0_1_eq (x0 : Vec F S256x7168 .bf16) :
    out0_1 x0 = View.canon (List.ofFn fun k : Fin 28 => ⟨rect k, codesB (View.ld x0 (rect k))⟩) := by
  rfl

/-- The block of dequantised entries is its 28 groups written side by side. -/
theorem out0_3_eq (x0 : Vec F S256x7168 .bf16) :
    out0_3 x0 = View.canon (List.ofFn fun k : Fin 28 => ⟨rect k, wideB (View.ld x0 (rect k))⟩) := by
  rfl

/-- The rectangle of group `g`. -/
abbrev rectUp (g : Fin 28) : Rect S256x7168 :=
  Rect.unit (s := S256x7168) ![0, 256 * g.val] S256x256.size (by
    intro a
    match a with
    | 0 => exact Nat.le_refl _
    | 1 => show 256 * g.val + 256 ≤ 7168; omega)

/-- 28 columns of width one make up a block of 28 columns. -/
theorem concat_ok : Shape.Concatenates ((List.ofFn fun _ : Fin 28 => S256x1)) S256x28 1 := by decide

/-- The block of scales is the 28 columns of scales side by side. -/
theorem out0_2_eq (x0 : Vec F S256x7168 .bf16) :
    out0_2 x0 = View.canon [⟨r0_28, concatenate S256x28 1
      (List.ofFn fun g : Fin 28 => (⟨S256x1, scaleB (View.ld x0 (rectUp g))⟩ : (s : Shape) × (s.Idx → Elt F .f32)))
        concat_ok⟩] := by
  rfl

end Generic

/-! ### At an index, over the extended reals -/

/-- The scale of one row of a group, entry by entry. -/
theorem scaleB_apply (v : Vec Ideal S256x256 .bf16) (i : S256x1.Idx) :
    scaleB v i = kscale (tmax fun k => v (ix2 (i 0) k)) := by
  unfold scaleB k0_pay6 k0_pay5 k0_pay4 kscale kexp field tmax amax
  dsimp only
  pointwise
  rfl

/-- The inverse scale of one row of a group, repeated along the row. -/
theorem kinvB_apply (v : Vec Ideal S256x256 .bf16) (i : S256x256.Idx) :
    k0_pay7 v i = kinv (tmax fun k => v (ix2 (i 0) k)) := by
  unfold k0_pay7 k0_pay5 k0_pay4 kinv kexp field tmax amax
  dsimp only
  pointwise
  rfl

/-- The codes of a group, entry by entry. -/
theorem codesB_apply (v : Vec Ideal S256x256 .bf16) (i : S256x256.Idx) :
    codesB v i = code (v i) (kinv (tmax fun k => v (ix2 (i 0) k))) := by
  rw [← kinvB_apply]
  unfold codesB k0_pay8 k0_pay4 code
  dsimp only
  pointwise

/-- The last product of a group, entry by entry: the code times the scale. -/
theorem pay9_apply (v2 : Vec Ideal S256x256 .f32) (v35 : Vec Ideal S256x1 .f32) (v41 : Vec Ideal S256x256 .f32)
    (i : S256x256.Idx) : (k0_pay9 (F := Ideal) v2 v35 v41 i : EReal) = (k0_pay8 (F := Ideal) v2 v41 i : EReal) * (v35 (ix2 (i 0) 0) : EReal) := by
  unfold k0_pay9
  pointwise

/-- The dequantised entries of a group, entry by entry. -/
theorem wideB_apply (v : Vec Ideal S256x256 .bf16) (i : S256x256.Idx) :
    wideB v i = code (v i) (kinv (tmax fun k => v (ix2 (i 0) k))) * kscale (tmax fun k => v (ix2 (i 0) k)) := by
  rw [← codesB_apply]
  exact (pay9_apply _ _ _ i).trans (congrArg (codesB v i * ·) (scaleB_apply v (ix2 (i 0) 0)))

/-- Column `k` of the group that holds column `c` of a row of 7168. -/
def gcol (c : Fin 7168) (k : Fin 256) : Fin 7168 := ⟨256 * (c.val / 256) + k.val, by omega⟩

/-- Column `k` of group `g` of a row of 7168. -/
def gcolOf (g : Fin 28) (k : Fin 256) : Fin 7168 := ⟨256 * g.val + k.val, by omega⟩

/-- Reading group `k` of a block gives the entries of the block in the columns of that group. -/
theorem ld_rect (x0 : Vec Ideal S256x7168 .bf16) (k : Fin 28) (x : S256x256.Idx) (y : S256x7168.Idx)
    (h0 : (y 0).val = (x 0).val) (h1 : (y 1).val = 256 * (27 - k.val) + (x 1).val) :
    View.ld x0 (rect k) x = x0 y := by
  refine View.ld_unit_apply_of x0 _ _ _ _ y fun a => ?_
  match a with
  | 0 => show (y 0).val = 0 + (x 0).val; omega
  | 1 => exact h1

/-- A group's row, read in the block. -/
theorem ld_row (x0 : Vec Ideal S256x7168 .bf16) (k : Fin 28) (x : S256x256.Idx) (y : S256x7168.Idx)
    (h0 : (y 0).val = (x 0).val) (h1 : (y 1).val = 256 * (27 - k.val) + (x 1).val) (q : Fin 256) :
    View.ld x0 (rect k) (ix2 (x 0) q) = x0 (ix2 (y 0) (gcol (y 1) q)) := by
  have hx : (x 1).val < 256 := (x 1).isLt
  refine ld_rect x0 k _ _ h0 ?_
  show 256 * ((y 1).val / 256) + q.val = 256 * (27 - k.val) + q.val
  omega

/-- Every column of the block lies in one of the 28 groups. -/
theorem cover_col (y : S256x7168.Idx) : ∃ k : Fin 28, ∀ a, off k a ≤ y a ∧ (y a : Nat) < off k a + S256x256.size a := by
  have hy0 : (y 0).val < 256 := (y 0).isLt
  have hy1 : (y 1).val < 7168 := (y 1).isLt
  refine ⟨⟨27 - (y 1).val / 256, by omega⟩, fun a => ?_⟩
  match a with
  | 0 => exact ⟨Nat.zero_le _, by show (y 0).val < 0 + 256; omega⟩
  | 1 => exact ⟨by show 256 * (27 - (27 - (y 1).val / 256)) ≤ (y 1).val; omega,
      by show (y 1).val < 256 * (27 - (27 - (y 1).val / 256)) + 256; omega⟩

/-- The codes that a block's grid point writes. -/
theorem out0_1_apply (x0 : Vec Ideal S256x7168 .bf16) (y : S256x7168.Idx) :
    out0_1 x0 y = code (x0 y) (kinv (tmax fun k => x0 (ix2 (y 0) (gcol (y 1) k)))) := by
  rw [out0_1_eq]
  refine View.canon_ofFn_unit_eq_of_forall (S := S256x7168) off S256x256.size off_inb (fun k => codesB (View.ld x0 (rect k))) y _
    (cover_col y) fun k => ?_
  tile_intro x h
  replace h0 : (y 0).val = (x 0).val := h0.trans (Nat.zero_add _)
  refine (codesB_apply _ x).trans ?_
  rw [ld_rect x0 k x y h0 h1]
  simp only [ld_row x0 k x y h0 h1]

/-- The codes times the scale that a block's grid point writes. -/
theorem out0_3_apply (x0 : Vec Ideal S256x7168 .bf16) (y : S256x7168.Idx) :
    out0_3 x0 y = code (x0 y) (kinv (tmax fun k => x0 (ix2 (y 0) (gcol (y 1) k))))
      * kscale (tmax fun k => x0 (ix2 (y 0) (gcol (y 1) k))) := by
  rw [out0_3_eq]
  refine View.canon_ofFn_unit_eq_of_forall (S := S256x7168) off S256x256.size off_inb
    (fun k => wideB (View.ld x0 (rect k))) y _ (cover_col y) fun k => ?_
  tile_intro x h
  replace h0 : (y 0).val = (x 0).val := h0.trans (Nat.zero_add _)
  refine (wideB_apply _ x).trans ?_
  rw [ld_rect x0 k x y h0 h1]
  simp only [ld_row x0 k x y h0 h1]

/-- The scales that a block's grid point writes. -/
theorem out0_2_apply (x0 : Vec Ideal S256x7168 .bf16) (y : S256x28.Idx) :
    out0_2 x0 y = kscale (tmax fun k => x0 (ix2 (y 0) (gcolOf (y 1) k))) := by
  rw [out0_2_eq]
  rw [View.canon_unit_zero (by decide)]
  refine concatenate_ofFn_unit_eq (t := S256x28) (s₁ := S256x1) 1
    (fun g : Fin 28 => scaleB (View.ld x0 (rectUp g))) (by exact concat_ok) y _ rfl rfl fun n i h1 _ hb => ?_
  have h0 : (i 0).val = (y 0).val := hb 0 (by decide)
  rw [scaleB_apply]
  congr 2
  funext k
  refine View.ld_unit_apply_of x0 _ _ _ _ _ fun a => ?_
  match a with
  | 0 => show (y 0).val = 0 + (i 0).val; omega
  | 1 => show 256 * (y 1).val + k.val = 256 * n.val + k.val; omega

end Cert.KernelIdeal.Value

end
-- ==== Proof.Matmul.lean ====
module

public import proofs.«01_k».proof.Proof.Gen.KernelIdeal.Frame
public import Idealize.ShloMosaic.Lib.Pipeline.ValueKit
public import Idealize.ShloMosaic.Lib.Pipeline.ReadBack

/-! The block that one step of the second kernel call computes.

The step scales its weights in 28 groups of 256 rows, written one after another into a scratch buffer, and then
takes one product.  This file reads the buffer as one array and gives the product entry by entry. -/

@[expose] public section

set_option maxRecDepth 16384

noncomputable section

namespace Cert.KernelIdeal.Value

open Idealize.ShloMosaic Idealize.ShloMosaic.TcCoe Idealize.SL.Sem Cert.KernelIdeal.Gen

section Generic
variable {F : FTy → Type} [FloatOps F]

/-- One group of 256 rows of the widened weights: the codes times the group's row of scales. -/
def wB (v : Vec F S256x512 .fp8e4m3) (w : Vec F S1x512 .f32) : Vec F S256x512 .bf16 := k1_pay4 v w

/-- Where the `k`-th store, counted from the last, puts its rows. -/
def offW (k : Fin 28) : Fin S7168x512.rank → Nat := ![256 * (27 - k.val), 0]

/-- Each group of 256 weight rows lies inside the 7168 rows. -/
theorem offW_inb (k : Fin 28) (a : Fin S7168x512.rank) : offW k a + S256x512.size a ≤ S7168x512.size a := by
  match a with
  | 0 => show 256 * (27 - k.val) + 256 ≤ 7168; omega
  | 1 => exact Nat.le_refl _

/-- The rectangle of the `k`-th store. -/
abbrev rectW (k : Fin 28) : Rect S7168x512 := Rect.unit (s := S7168x512) (offW k) S256x512.size (offW_inb k)

/-- The row of scales that the `k`-th store reads. -/
abbrev rectS (k : Fin 28) : Rect S28x512 := Rect.unit (s := S28x512) ![27 - k.val, 0] S1x512.size (by
  intro a
  match a with
  | 0 => show 27 - k.val + 1 ≤ 28; omega
  | 1 => exact Nat.le_refl _)

/-- The widened weights as the 28 stores leave them. -/
def wide (x1 : Vec F S7168x512 .fp8e4m3) (x2 : Vec F S28x512 .f32) : Vec F S7168x512 .bf16 :=
  View.canon (List.ofFn fun k : Fin 28 => ⟨rectW k, wB (View.ld x1 (rectW k)) (View.ld x2 (rectS k))⟩)

variable (V : (c : Dev nD) → (b : Ref sig .tc) → Buf (Elt F) ((c : Thread nD τ).loc b))

/-- A grid point of the product writes its rows times the widened weights. -/
theorem outsAt1_eq (c : Dev nD) (t : Fin cfg1.N) :
    outsAt1 V c t = k1_pay3 (iblk1 V c 0 t) (wide (iblk1 V c 1 t) (iblk1 V c 2 t)) := by
  funext y
  unfold outsAt1
  frame_out
  refine congrFun (congrArg (k1_pay3 _) ?_) y
  rw [View.readCov_eq_canon']
  funext j
  refine congrArg₂ View.canon (by rfl) ?_
  funext a
  apply Fin.ext
  match a with
  | 0 => show 0 + 1 * (j 0).val = (j 0).val; omega
  | 1 => show 0 + 1 * (j 1).val = (j 1).val; omega

end Generic

/-! ### At an index, over the extended reals -/

/-- The scaled weights of a group, entry by entry: the weight code times its scale. -/
theorem wB_apply (v : Vec Ideal S256x512 .fp8e4m3) (w : Vec Ideal S1x512 .f32) (i : S256x512.Idx) :
    (wB v w i : EReal) = (v i : EReal) * (w (ix2 0 (i 1)) : EReal) := by
  unfold wB k1_pay4
  pointwise

/-- The group of row `k` of the weights. -/
def grp (k : Fin 7168) : Fin 28 := ⟨k.val / 256, by omega⟩

/-- The widened weights at an index: the code times its group's scale. -/
theorem wide_apply (x1 : Vec Ideal S7168x512 .fp8e4m3) (x2 : Vec Ideal S28x512 .f32) (y : S7168x512.Idx) :
    (wide x1 x2 y : EReal) = (x1 y : EReal) * (x2 (ix2 (grp (y 0)) (y 1)) : EReal) := by
  unfold wide
  have hy0 : (y 0).val < 7168 := (y 0).isLt
  refine View.canon_ofFn_unit_eq_of_forall (S := S7168x512) offW S256x512.size offW_inb
    (fun k => wB (View.ld x1 (rectW k)) (View.ld x2 (rectS k))) y _
    ⟨⟨27 - (y 0).val / 256, by omega⟩, fun a => ?_⟩ fun k => ?_
  · match a with
    | 0 => exact ⟨by show 256 * (27 - (27 - (y 0).val / 256)) ≤ (y 0).val; omega,
        by show (y 0).val < 256 * (27 - (27 - (y 0).val / 256)) + 256; omega⟩
    | 1 => exact ⟨Nat.zero_le _, by show (y 1).val < 0 + 512; have : (y 1).val < 512 := (y 1).isLt; omega⟩
  · tile_intro x h
    replace h0 : (y 0).val = 256 * (27 - k.val) + (x 0).val := h0
    replace h1 : (y 1).val = (x 1).val := h1.trans (Nat.zero_add _)
    refine (wB_apply _ _ x).trans ?_
    have e1 : View.ld x1 (rectW k) x = x1 y :=
      View.ld_unit_apply_of x1 (offW k) _ _ x y (fun a => by
        match a with
        | 0 => exact h0
        | 1 => show (y 1).val = 0 + (x 1).val; omega)
    have e2 : View.ld x2 (rectS k) (ix2 0 (x 1)) = x2 (ix2 (grp (y 0)) (y 1)) :=
      View.ld_unit_apply_of x2 ![27 - k.val, 0] _ _ (ix2 0 (x 1)) (ix2 (grp (y 0)) (y 1)) (fun a => by
        match a with
        | 0 => show (y 0).val / 256 = 27 - k.val + 0; omega
        | 1 => show (y 1).val = 0 + (x 1).val; omega)
    exact congrArg₂ (fun p q : EReal => p * q) e1 e2

/-- The product of a block of rows and a block of columns at an index. -/
theorem pay3_apply (a : Vec Ideal S1024x7168 .bf16) (b : Vec Ideal S7168x512 .bf16) (y : S1024x512.Idx) :
    (k1_pay3 (F := Ideal) a b y : EReal) = ∑ k : Fin 7168, (a (ix2 (y 0) k) : EReal) * (b (ix2 k (y 1)) : EReal) := by
  unfold k1_pay3
  pointwise

/-- What a grid point of the product writes, at an index of its block. -/
theorem block_apply (x0 : Vec Ideal S1024x7168 .bf16) (x1 : Vec Ideal S7168x512 .fp8e4m3) (x2 : Vec Ideal S28x512 .f32)
    (y : S1024x512.Idx) :
    (k1_pay3 (F := Ideal) x0 (wide x1 x2) y : EReal) = ∑ k : Fin 7168, (x0 (ix2 (y 0) k) : EReal) *
      ((x1 (ix2 k (y 1)) : EReal) * (x2 (ix2 (grp k) (y 1)) : EReal)) :=
  (pay3_apply _ _ y).trans (Finset.sum_congr rfl fun k _ =>
    congrArg (fun p : EReal => (x0 (ix2 (y 0) k) : EReal) * p) (wide_apply x1 x2 (ix2 k (y 1))))

end Cert.KernelIdeal.Value

end
-- ==== Proof.Arrays.lean ====
module

public import proofs.«01_k».proof.Proof.Blocks
public import proofs.«01_k».proof.Proof.Matmul
public import Idealize.ShloMosaic.Lib.Pipeline.Covers

/-! The arrays that the two kernel calls leave, as functions of the arrays they read.

The first call leaves the codes, the scales and the dequantised entries row by row; the second leaves the product
of the dequantised entries with the scaled weights.  The blocks of the grid are put together into whole arrays. -/

@[expose] public section

set_option maxRecDepth 16384

noncomputable section

namespace Cert.KernelIdeal.Value

open Idealize.ShloMosaic Idealize.ShloMosaic.TcCoe Idealize.SL.Sem Cert.KernelIdeal.Gen Cert.Quant
open Idealize.ShloMosaic.Pipeline (Dat)

/-! ### Rows: a row of the input decides a row of each quantised result -/

/-- Entry `j` of the codes of a row. -/
def codeRow (row : Fin 7168 → EReal) (j : Fin 7168) : EReal := code (row j) (kinv (tmax fun k => row (gcol j k)))

/-- The scale of group `g` of a row. -/
def scaleRow (row : Fin 7168 → EReal) (g : Fin 28) : EReal := kscale (tmax fun k => row (gcolOf g k))

/-- Entry `j` of a row put back to scale: its code times its group's scale. -/
def wideRow (row : Fin 7168 → EReal) (j : Fin 7168) : EReal := codeRow row j * kscale (tmax fun k => row (gcol j k))

/-- The whole array of codes. -/
def codesA (X : Vec Ideal S16384x7168 .bf16) : Vec Ideal S16384x7168 .fp8e4m3 :=
  fun i => codeRow (fun r => X (ix2 (i 0) r)) (i 1)

/-- The whole array of scales. -/
def scaleA (X : Vec Ideal S16384x7168 .bf16) : Vec Ideal S16384x28 .f32 :=
  fun i => scaleRow (fun r => X (ix2 (i 0) r)) (i 1)

/-- The whole array of quantised entries put back to scale. -/
def wideA (X : Vec Ideal S16384x7168 .bf16) : Vec Ideal S16384x7168 .bf16 :=
  fun i => wideRow (fun r => X (ix2 (i 0) r)) (i 1)

/-- The product of an array of rows with the scaled weights. -/
def prodA (A : Vec Ideal S16384x7168 .bf16) (W : Vec Ideal S7168x18432 .fp8e4m3) (S : Vec Ideal S28x18432 .f32) :
    Vec Ideal S16384x18432 .bf16 :=
  fun i => ∑ k : Fin 7168, (A (ix2 (i 0) k) : EReal) * ((W (ix2 k (i 1)) : EReal) * (S (ix2 (grp k) (i 1)) : EReal))

/-! ### The first call -/

/-- An index of a block is made of its two coordinates. -/
theorem eta (y : S256x7168.Idx) : y = ix2 (y 0) (y 1) := by
  funext a
  match a with
  | 0 => rfl
  | 1 => rfl

/-- The codes of a block, row by row. -/
theorem codes_row (x0 : Vec Ideal S256x7168 .bf16) (y : S256x7168.Idx) :
    (out0_1 x0 y : EReal) = codeRow (fun r => x0 (ix2 (y 0) r)) (y 1) :=
  (out0_1_apply x0 y).trans (congrArg (fun p => code p (kinv (tmax fun k => x0 (ix2 (y 0) (gcol (y 1) k)))))
    (congrArg x0 (eta y)))

/-- The entries put back to scale of a block, row by row. -/
theorem wide_row (x0 : Vec Ideal S256x7168 .bf16) (y : S256x7168.Idx) :
    (out0_3 x0 y : EReal) = wideRow (fun r => x0 (ix2 (y 0) r)) (y 1) :=
  (out0_3_apply x0 y).trans (congrArg (fun p => code p (kinv (tmax fun k => x0 (ix2 (y 0) (gcol (y 1) k)))) *
    kscale (tmax fun k => x0 (ix2 (y 0) (gcol (y 1) k)))) (congrArg x0 (eta y)))

/-- The scales of a block, row by row. -/
theorem scale_row (x0 : Vec Ideal S256x7168 .bf16) (y : S256x28.Idx) :
    (out0_2 x0 y : EReal) = scaleRow (fun r => x0 (ix2 (y 0) r)) (y 1) := out0_2_apply x0 y

/-- Every window of the first call is at block row `t`. -/
theorem idx0 : ∀ t : Fin cfg0.N, win0_0.index t = ![t.val, 0] ∧ win0_1.index t = ![t.val, 0] ∧
    win0_2.index t = ![t.val, 0] ∧ win0_3.index t = ![t.val, 0] :=
  (by decide +kernel : ∀ t : Fin grid0.N, _)

variable (V : (c : Dev nD) → (b : Ref sig .tc) → Buf (Elt Ideal) ((c : Thread nD τ).loc b))

/-- After the first call its first result is the codes of the rows. -/
theorem codes_arr (c : Dev nD) : (dat0 V c).arrAt 1 cfg0.N = codesA (V c main_v0) := by
  refine (dat0 V c).arrAt_eq_of_covers 1 _ (by decide +kernel) fun t hf y => ?_
  blk_simp
  rw [after0_1]
  refine (codes_row _ y).trans (congrArg₂ codeRow (funext fun r => ?_) (Fin.ext ?_))
  · blk_ext [iblk0, idx0 t]
  · blk_simp [idx0 t]

/-- After the first call its second result is the scales of the rows. -/
theorem scale_arr (c : Dev nD) : (dat0 V c).arrAt 2 cfg0.N = scaleA (V c main_v0) := by
  refine (dat0 V c).arrAt_eq_of_covers 2 _ (by decide +kernel) fun t hf y => ?_
  blk_simp
  rw [after0_2]
  refine (scale_row _ y).trans (congrArg₂ scaleRow (funext fun r => ?_) (Fin.ext ?_))
  · blk_ext [iblk0, idx0 t]
  · blk_simp [idx0 t]

/-- After the first call its third result is the rows put back to scale. -/
theorem wide_arr (c : Dev nD) : (dat0 V c).arrAt 3 cfg0.N = wideA (V c main_v0) := by
  refine (dat0 V c).arrAt_eq_of_covers 3 _ (by decide +kernel) fun t hf y => ?_
  blk_simp
  rw [after0_3]
  refine (wide_row _ y).trans (congrArg₂ wideRow (funext fun r => ?_) (Fin.ext ?_))
  · blk_ext [iblk0, idx0 t]
  · blk_simp [idx0 t]

/-! ### The second call -/

/-- The product's windows: rows by `t / 36`, columns by `t % 36`. -/
theorem idx1 : ∀ t : Fin cfg1.N, win1_0.index t = ![t.val / 36, 0] ∧ win1_1.index t = ![0, t.val % 36] ∧
    win1_2.index t = ![0, t.val % 36] ∧ win1_3.index t = ![t.val / 36, t.val % 36] :=
  (by decide +kernel : ∀ t : Fin grid1.N, _)

/-- After the second call its result is the product. -/
theorem prod_arr (c : Dev nD) :
    (dat1 V c).arrAt 3 cfg1.N = prodA (V c main_v1_2) (V c main_arg1) (V c main_arg2) := by
  refine (dat1 V c).arrAt_eq_of_covers 3 _ (by decide +kernel) fun t hf y => ?_
  blk_simp
  rw [after1_3, outsAt1_eq]
  refine (block_apply _ _ _ y).trans ?_
  unfold prodA
  blk_point [iblk1, idx1 t]

end Cert.KernelIdeal.Value

end
-- ==== Proof.RefArrays.lean ====
module

public import proofs.«01_k».proof.Proof.RefBody
public import proofs.«01_k».proof.Proof.Arrays

/-! The reference's three arrays, each a function of the input's rows. -/

@[expose] public section

set_option maxRecDepth 16384

noncomputable section

namespace Cert.ReferenceIdeal.Value

open Idealize.ShloMosaic Idealize.ShloMosaic.TcCoe Idealize.SL.Sem Cert.ReferenceIdeal.Gen Cert.Quant
open Idealize.ShloMosaic.Pipeline (Dat)
open Cert.KernelIdeal.Value (gcol gcolOf grp)

/-- Entry `j` of the codes of a row, by the reference's exponent. -/
def codeRowR (row : Fin 7168 → EReal) (j : Fin 7168) : EReal :=
  code (row j) (Ideal.exp2 (-(rexp (tmax fun k => row (gcol j k)))))

/-- The scale of group `g` of a row, by the reference's exponent. -/
def scaleRowR (row : Fin 7168 → EReal) (g : Fin 28) : EReal := Ideal.exp2 (rexp (tmax fun k => row (gcolOf g k)))

/-- Entry `j` of a row put back to scale, by the reference's exponent. -/
def wideRowR (row : Fin 7168 → EReal) (j : Fin 7168) : EReal :=
  codeRowR row j * Ideal.exp2 (rexp (tmax fun k => row (gcol j k)))

/-- The exponent of group `g` of row `p`. -/
theorem exp_row (x0 : Vec Ideal S16384x7168 .bf16) (p : Fin 16384) (g : Fin 28) :
    (k0_pay4 (F := Ideal) x0 (ix2 p g) : EReal) = rexp (tmax fun k => x0 (ix2 p (gcolOf g k))) := by
  rw [pay4_eq]
  refine (expG_apply _ _).trans (congrArg rexp ?_)
  unfold tmax
  refine congrArg (fun a : EReal => a * Ideal.ofBits .f32 0x3B124925#32) ((maxG_apply _ _).trans ?_)
  refine congrArg amax (funext fun k => (pay3_apply x0 p g k).trans ?_)
  refine congrArg x0 (congrArg (ix2 p) (Fin.ext ?_))
  show g.val * 256 + k.val = 256 * g.val + k.val
  omega

/-- Group `j / 256` is the group of entry `j`. -/
theorem gcolOf_div (j : Fin 7168) : gcolOf ⟨j.val / 256, by omega⟩ = gcol j := rfl

/-- The reference code of entry `(p, j)` depends on row `p` alone. -/
theorem code_at (x0 : Vec Ideal S16384x7168 .bf16) (p : Fin 16384) (j : Fin 7168) :
    (k0_pay6 (F := Ideal) x0 (ix3 p ⟨j.val / 256, by omega⟩ ⟨j.val % 256, by omega⟩) : EReal)
      = codeRowR (fun r => x0 (ix2 p r)) j := by
  rw [pay6_eq]
  refine (codeG_apply _ _ _).trans ?_
  unfold codeRowR
  refine congrArg₂ code ((pay3_apply x0 p _ _).trans (congrArg x0 (congrArg (ix2 p) (Fin.ext ?_))))
    (congrArg (fun e => Ideal.exp2 (-e)) (exp_row x0 p _))
  show j.val / 256 * 256 + j.val % 256 = j.val
  omega

/-- The codes at an index. -/
theorem codes_at (x0 : Vec Ideal S16384x7168 .bf16) (p : Fin 16384) (j : Fin 7168) :
    (k0_pay2 (k0_pay6 (F := Ideal) x0) (ix2 p j) : EReal) = codeRowR (fun r => x0 (ix2 p r)) j :=
  (pay2_apply _ p j).trans (code_at x0 p j)

/-- The scales at an index. -/
theorem scale_at (x0 : Vec Ideal S16384x7168 .bf16) (p : Fin 16384) (g : Fin 28) :
    (k0_pay5 (F := Ideal) x0 (ix2 p g) : EReal) = scaleRowR (fun r => x0 (ix2 p r)) g := by
  rw [pay5_eq]
  exact (exp2_at _ _).trans (congrArg Ideal.exp2 (exp_row x0 p g))

/-- The entries put back to scale at an index. -/
theorem wide_at (x0 : Vec Ideal S16384x7168 .bf16) (p : Fin 16384) (j : Fin 7168) :
    (k0_pay7 (F := Ideal) x0 (ix2 p j) : EReal) = wideRowR (fun r => x0 (ix2 p r)) j := by
  rw [pay7_eq]
  exact (wideG_apply _ _ p j).trans (congrArg₂ (fun a b : EReal => a * b) (code_at x0 p j) (scale_at x0 p _))

/-- The whole array of codes. -/
def codesR (X : Vec Ideal S16384x7168 .bf16) : Vec Ideal S16384x7168 .fp8e4m3 :=
  fun i => codeRowR (fun r => X (ix2 (i 0) r)) (i 1)

/-- The whole array of scales. -/
def scaleR (X : Vec Ideal S16384x7168 .bf16) : Vec Ideal S16384x28 .f32 :=
  fun i => scaleRowR (fun r => X (ix2 (i 0) r)) (i 1)

/-- The whole array of quantised entries put back to scale. -/
def wideR (X : Vec Ideal S16384x7168 .bf16) : Vec Ideal S16384x7168 .bf16 :=
  fun i => wideRowR (fun r => X (ix2 (i 0) r)) (i 1)

/-- The reference's product is the product of the rows put back to scale. -/
theorem prod_eq (X : Vec Ideal S16384x7168 .bf16) (W : Vec Ideal S7168x18432 .fp8e4m3) (S : Vec Ideal S28x18432 .f32) :
    k0_pay1 (F := Ideal) (k0_pay7 X) (k0_pay8 W S) = Cert.KernelIdeal.Value.prodA (wideR X) W S := by
  funext y
  refine (pay1_apply _ _ y).trans ?_
  unfold Cert.KernelIdeal.Value.prodA
  exact Finset.sum_congr rfl fun k _ => congrArg₂ (fun a b : EReal => a * b) (wide_at X (y 0) k) (pay8_apply W S k (y 1))

/-- An index is the pair of its two coordinates. -/
theorem eta7168 (y : S16384x7168.Idx) : y = ix2 (y 0) (y 1) := by
  funext a
  match a with
  | 0 => rfl
  | 1 => rfl

/-- An index is the pair of its two coordinates. -/
theorem eta28 (y : S16384x28.Idx) : y = ix2 (y 0) (y 1) := by
  funext a
  match a with
  | 0 => rfl
  | 1 => rfl

/-- The array of codes the reference body computes is the row-wise one. -/
theorem codes_eq (X : Vec Ideal S16384x7168 .bf16) : k0_pay2 (k0_pay6 (F := Ideal) X) = codesR X :=
  funext fun y => (congrArg (k0_pay2 (k0_pay6 (F := Ideal) X)) (eta7168 y)).trans (codes_at X (y 0) (y 1))

/-- The array of scales the reference body computes is the row-wise one. -/
theorem scale_eq' (X : Vec Ideal S16384x7168 .bf16) : k0_pay5 (F := Ideal) X = scaleR X :=
  funext fun y => (congrArg (k0_pay5 (F := Ideal) X) (eta28 y)).trans (scale_at X (y 0) (y 1))

/-! ### The arrays after the call -/

variable (m : (ℓ : Loc nD τ sig) → Buf (Elt Ideal) ℓ)

/-- Every window of the reference call is the whole array. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

/-- The first input block is the whole of `x`. -/
theorem iblk0 (c : Dev nD) (t : Fin cfg0.N) : iblk m c 0 t = V m c main_v0 := by blk_ext! [iblk, idx t]
/-- The second input block is the whole array of weight codes. -/
theorem iblk1 (c : Dev nD) (t : Fin cfg0.N) : iblk m c 1 t = V m c main_arg1 := by blk_ext! [iblk, idx t]
/-- The third input block is the whole array of weight scales. -/
theorem iblk2 (c : Dev nD) (t : Fin cfg0.N) : iblk m c 2 t = V m c main_arg2 := by blk_ext! [iblk, idx t]

/-- The product array the reference call leaves. -/
theorem prod_arr (c : Dev nD) : (dats m 0 c).arrAt 3 (cfgs 0).N
    = Cert.KernelIdeal.Value.prodA (wideR (V m c main_v0)) (V m c main_arg1) (V m c main_arg2) := by
  refine (dats m 0 c).arrAt_eq_of_after_last 3 t0_0 (by decide +kernel) _ fun j => ?_
  blk_simp
  rw [after0_3]
  frame_out
  rw [iblk0, iblk1, iblk2, prod_eq]

/-- The array of codes the reference call leaves. -/
theorem codes_arr (c : Dev nD) : (dats m 0 c).arrAt 4 (cfgs 0).N = codesR (V m c main_v0) := by
  refine (dats m 0 c).arrAt_eq_of_after_last 4 t0_0 (by decide +kernel) _ fun j => ?_
  blk_simp
  rw [after0_4]
  frame_out
  rw [iblk0, codes_eq]

/-- The array of scales the reference call leaves. -/
theorem scale_arr (c : Dev nD) : (dats m 0 c).arrAt 5 (cfgs 0).N = scaleR (V m c main_v0) := by
  refine (dats m 0 c).arrAt_eq_of_after_last 5 t0_0 (by decide +kernel) _ fun j => ?_
  blk_simp
  rw [after0_5]
  frame_out
  rw [iblk0, scale_eq']

end Cert.ReferenceIdeal.Value

end
-- ==== Proof.Agree.lean ====
module

public import proofs.«01_k».proof.Proof.RefArrays
public import proofs.«01_k».proof.Pre_finite
public import Idealize.ShloMosaic.Lib.ReduceAll

/-! For a finite input the kernel's quantised arrays are the reference's. -/

@[expose] public section

set_option maxRecDepth 16384

noncomputable section

namespace Cert.Quant

open Idealize.ShloMosaic

/-- The f32 constant standing for 1/448, as a real number. -/
theorem recip_f32 : Ideal.ofBits .f32 0x3B124925#32 = (((9586981 : ℝ) * 2 ^ (-32 : ℤ) : ℝ) : EReal) := by
  simp [Ideal.ofBits, Ideal.ieee, -EReal.coe_mul]

/-- The largest finite bf16 number, as a real number. -/
theorem bound_f32 : Ideal.ofBits .f32 0x7F7F0000#32 = (((16711680 : ℝ) * 2 ^ (104 : ℤ) : ℝ) : EReal) := by
  simp [Ideal.ofBits, Ideal.ieee, -EReal.coe_mul]

/-- The f32 word of minus infinity is the bottom of the extended reals. -/
theorem bot_f32 : Ideal.ofBits .f32 0xFF800000#32 = ⊥ := by
  simp [Ideal.ofBits, Ideal.ieee]

/-- A finite group's largest magnitude over 448 is small enough for the kernel's exponents. -/
theorem tmax_small (r : Fin 256 → EReal) (h : ∀ k, max (r k) (-(r k)) ≤ Ideal.ofBits .f32 0x7F7F0000#32) :
    0 ≤ tmax r ∧ tmax r < (((2 : ℝ) ^ (126 : ℤ) : ℝ) : EReal) := by
  have hle : amax r ≤ Ideal.ofBits .f32 0x7F7F0000#32 := by
    unfold amax
    rw [Finset.fold_max_le]
    exact ⟨by rw [bot_f32]; exact bot_le, fun k _ => h k⟩
  have hge : 0 ≤ amax r := by
    unfold amax
    rw [Finset.le_fold_max]
    refine Or.inr ⟨0, Finset.mem_univ _, ?_⟩
    rcases le_total 0 (r 0) with h0 | h0
    · exact h0.trans (le_max_left _ _)
    · exact (EReal.neg_nonneg.2 h0).trans (le_max_right _ _)
  rw [bound_f32] at hle
  unfold tmax
  rw [recip_f32]
  generalize amax r = a at hle hge
  induction a using EReal.rec with
  | bot => exact absurd hge (by simp)
  | top => exact absurd hle (not_le.2 (EReal.coe_lt_top _))
  | coe x =>
    rw [← EReal.coe_zero, EReal.coe_le_coe_iff] at hge
    rw [EReal.coe_le_coe_iff] at hle
    rw [← EReal.coe_mul, ← EReal.coe_zero, EReal.coe_le_coe_iff, EReal.coe_lt_coe_iff]
    refine ⟨by positivity, lt_of_le_of_lt (mul_le_mul_of_nonneg_right hle (by positivity)) ?_⟩
    norm_num

end Cert.Quant

namespace Cert.Agree

open Idealize.ShloMosaic Cert.Quant Cert.KernelIdeal Cert.KernelIdeal.Value Cert.ReferenceIdeal.Value

/-- Every entry is finite, as the largest finite value of its type bounds it. -/
def Small (X : Vec Ideal S16384x7168 .bf16) : Prop :=
  ∀ i, max (X i : EReal) (-(X i : EReal)) ≤ Ideal.ofBits .f32 0x7F7F0000#32

/-- In a row of finite entries, the kernel and the reference give each entry the same code. -/
theorem codeRow_eq (row : Fin 7168 → EReal) (h : ∀ j, max (row j) (-(row j)) ≤ Ideal.ofBits .f32 0x7F7F0000#32)
    (j : Fin 7168) : codeRow row j = codeRowR row j := by
  have hs := tmax_small (fun k => row (gcol j k)) fun k => h _
  unfold codeRow codeRowR
  rw [inv_eq _ hs.1 hs.2]

/-- In a row of finite entries, the kernel and the reference give each group the same scale. -/
theorem scaleRow_eq (row : Fin 7168 → EReal) (h : ∀ j, max (row j) (-(row j)) ≤ Ideal.ofBits .f32 0x7F7F0000#32)
    (g : Fin 28) : scaleRow row g = scaleRowR row g := by
  have hs := tmax_small (fun k => row (gcolOf g k)) fun k => h _
  unfold scaleRow scaleRowR
  rw [scale_eq _ hs.1 hs.2]

/-- In a row of finite entries, the kernel and the reference multiply the weights by the same numbers. -/
theorem wideRow_eq (row : Fin 7168 → EReal) (h : ∀ j, max (row j) (-(row j)) ≤ Ideal.ofBits .f32 0x7F7F0000#32)
    (j : Fin 7168) : wideRow row j = wideRowR row j := by
  have hs := tmax_small (fun k => row (gcol j k)) fun k => h _
  unfold wideRow wideRowR
  rw [codeRow_eq row h, scale_eq _ hs.1 hs.2]

/-- The codes agree. -/
theorem codes_agree (X : Vec Ideal S16384x7168 .bf16) (h : Small X) : codesA X = codesR X :=
  funext fun _ => codeRow_eq _ (fun _ => h _) _

/-- The scales agree. -/
theorem scale_agree (X : Vec Ideal S16384x7168 .bf16) (h : Small X) : scaleA X = scaleR X :=
  funext fun _ => scaleRow_eq _ (fun _ => h _) _

/-- The entries put back to scale agree. -/
theorem wide_agree (X : Vec Ideal S16384x7168 .bf16) (h : Small X) : wideA X = wideR X :=
  funext fun _ => wideRow_eq _ (fun _ => h _) _

/-- The precondition bounds every entry of the input. -/
theorem small_of_pre [hP : Cert.Pre_finite.Facts] (x : Vec Ideal S2x8192x7168 .bf16) (w : Vec Ideal S7168x18432 .fp8e4m3)
    (s : Vec Ideal S28x18432 .f32) (h : Cert.Pre_finite.fn (F := Ideal) x w s = fun _ => 1#1) (i : S2x8192x7168.Idx) :
    max (x i : EReal) (-(x i : EReal)) ≤ Ideal.ofBits .f32 0x7F7F0000#32 := by
  have e := congrFun h (fun a => a.elim0)
  dsimp only [Cert.Pre_finite.fn] at e
  have := Host.reduce_andi_all _ _ _ _ _ e i
  have hb : BitVec.ofBool (decide (max (x i : EReal) (-(x i : EReal)) ≤ Ideal.ofBits .f32 0x7F7F0000#32)) = 1#1 := this
  by_contra hn
  rw [decide_eq_false hn] at hb
  exact absurd hb (by decide)

end Cert.Agree

end
-- ==== Proof.Run.lean ====
module

public import proofs.«01_k».proof.Proof.Gen.KernelIdeal.Frame

/-! The kernel's run, with every unscoped buffer's final contents. -/

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

set_option backward.isDefEq.respectTransparency.types false in
/-- Every run of the kernel ends with each unscoped buffer at the contents that the two calls and the host operations
    around them leave (`W4`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The run read at the three results and the three arguments. -/
theorem run_results : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v3 (by decide)), h c _ (mem_uc main_v4 (by decide)),
    h c _ (mem_uc main_v5 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c)⟩) (run m ρ)

end Cert.KernelIdeal.Value

end
-- ==== Proof.Results.lean ====
module

public import proofs.«01_k».proof.Proof.Run
public import proofs.«01_k».proof.Proof.Arrays
public import Idealize.ShloMosaic.Lib.Claim

/-! The kernel's three results as functions of its arguments. -/

@[expose] public section

set_option maxRecDepth 16384

noncomputable section

namespace Cert.KernelIdeal.Value

open Idealize.ShloMosaic Idealize.ShloMosaic.TcCoe Idealize.SL.Sem Cert.KernelIdeal.Gen
open Idealize.ShloMosaic.Pipeline (Dat)

variable (m : (ℓ : Loc nD τ sig) → Buf (Elt Ideal) ℓ) (ρ : Dev nD → PrngReg)

/-- The input as rows. -/
def rowsK (x : Vec Ideal S2x8192x7168 .bf16) : Vec Ideal S16384x7168 .bf16 :=
  shapeCast S16384x7168 x shapeCasts_S2x8192x7168_S16384x7168

/-- The operation before the calls writes the input as rows. -/
theorem after0_v0 (σ : Valuation τ sig (Elt Ideal)) : StableHlo.after hostOps0 σ (Proc.devRef .tc main_v0)
    = rowsK (σ (Proc.devRef .tc main_arg0)) := by
  after_results
  rfl

/-- The operations after the calls reshape the three results. -/
theorem after2_v3 (σ : Valuation τ sig (Elt Ideal)) : StableHlo.after hostOps2 σ (Proc.devRef .tc main_v3)
    = shapeCast S2x8192x18432 (σ (Proc.devRef .tc main_v2)) shapeCasts_S16384x18432_S2x8192x18432 := by
  after_results
  rfl

/-- The host reshape of the codes. -/
theorem after2_v4 (σ : Valuation τ sig (Elt Ideal)) : StableHlo.after hostOps2 σ (Proc.devRef .tc main_v4)
    = shapeCast S2x8192x7168 (σ (Proc.devRef .tc main_v1_0)) shapeCasts_S16384x7168_S2x8192x7168 := by
  after_results
  rfl

/-- The host reshape of the scales. -/
theorem after2_v5 (σ : Valuation τ sig (Elt Ideal)) : StableHlo.after hostOps2 σ (Proc.devRef .tc main_v5)
    = shapeCast S2x8192x28 (σ (Proc.devRef .tc main_v1_1)) shapeCasts_S16384x28_S2x8192x28 := by
  after_results
  rfl

/-- The first call finds the input as rows. -/
theorem V1_rows (c : Dev nD) : V1 m ρ c main_v0 = rowsK (m ((c : Thread nD τ).loc main_arg0)) := by
  exact after0_v0 (W0 m ρ c)

/-- After the first call, the array of codes. -/
theorem W2_codes (c : Dev nD) : W2 m ρ c (Proc.devRef .tc main_v1_0) = codesA (rowsK (m ((c : Thread nD τ).loc main_arg0))) := by
  rw [← V1_rows m ρ c]
  exact (W2_arr m ρ c 1).trans (codes_arr (V1 m ρ) c)

/-- After the first call, the array of scales. -/
theorem W2_scale (c : Dev nD) : W2 m ρ c (Proc.devRef .tc main_v1_1) = scaleA (rowsK (m ((c : Thread nD τ).loc main_arg0))) := by
  rw [← V1_rows m ρ c]
  exact (W2_arr m ρ c 2).trans (scale_arr (V1 m ρ) c)

/-- After the first call, the array of dequantised entries. -/
theorem W2_wide (c : Dev nD) : W2 m ρ c (Proc.devRef .tc main_v1_2) = wideA (rowsK (m ((c : Thread nD τ).loc main_arg0))) := by
  rw [← V1_rows m ρ c]
  exact (W2_arr m ρ c 3).trans (wide_arr (V1 m ρ) c)

/-- The second call leaves the codes as they were. -/
theorem W3_codes (c : Dev nD) : W3 m ρ c (Proc.devRef .tc main_v1_0) = codesA (rowsK (m ((c : Thread nD τ).loc main_arg0))) :=
  (W3_of m ρ c main_v1_0 (by decide)).trans (W2_codes m ρ c)

/-- The second call leaves the scales as they were. -/
theorem W3_scale (c : Dev nD) : W3 m ρ c (Proc.devRef .tc main_v1_1) = scaleA (rowsK (m ((c : Thread nD τ).loc main_arg0))) :=
  (W3_of m ρ c main_v1_1 (by decide)).trans (W2_scale m ρ c)

/-- After the second call, the product array. -/
theorem W3_prod (c : Dev nD) : W3 m ρ c (Proc.devRef .tc main_v2) = prodA (wideA (rowsK (m ((c : Thread nD τ).loc main_arg0))))
    (m ((c : Thread nD τ).loc main_arg1)) (m ((c : Thread nD τ).loc main_arg2)) := by
  rw [← W2_wide m ρ c, ← W2_args m ρ c main_arg1 (by decide), ← W2_args m ρ c main_arg2 (by decide)]
  exact (W3_arr m ρ c 3).trans (prod_arr (V2 m ρ) c)

/-- The first result. -/
theorem W4_prod (c : Dev nD) : W4 m ρ c (Proc.devRef .tc main_v3) = shapeCast S2x8192x18432
    (prodA (wideA (rowsK (m ((c : Thread nD τ).loc main_arg0)))) (m ((c : Thread nD τ).loc main_arg1)) (m ((c : Thread nD τ).loc main_arg2)))
    shapeCasts_S16384x18432_S2x8192x18432 := by
  rw [← W3_prod m ρ c]
  exact after2_v3 (W3 m ρ c)

/-- The second result. -/
theorem W4_codes (c : Dev nD) : W4 m ρ c (Proc.devRef .tc main_v4) = shapeCast S2x8192x7168
    (codesA (rowsK (m ((c : Thread nD τ).loc main_arg0)))) shapeCasts_S16384x7168_S2x8192x7168 := by
  rw [← W3_codes m ρ c]
  exact after2_v4 (W3 m ρ c)

/-- The third result. -/
theorem W4_scale (c : Dev nD) : W4 m ρ c (Proc.devRef .tc main_v5) = shapeCast S2x8192x28
    (scaleA (rowsK (m ((c : Thread nD τ).loc main_arg0)))) shapeCasts_S16384x28_S2x8192x28 := by
  rw [← W3_scale m ρ c]
  exact after2_v5 (W3 m ρ c)

end Cert.KernelIdeal.Value

end
-- ==== Proof.RefResults.lean ====
module

public import proofs.«01_k».proof.Proof.RefArrays
public import Idealize.ShloMosaic.Lib.Claim

/-! The reference's three results as functions of its arguments. -/

@[expose] public section

set_option maxRecDepth 16384

noncomputable section

namespace Cert.ReferenceIdeal.Value

open Idealize.ShloMosaic Idealize.ShloMosaic.TcCoe Idealize.SL.Sem Cert.ReferenceIdeal.Gen
open Idealize.ShloMosaic.Pipeline (Dat)

variable (m : (ℓ : Loc nD τ sig) → Buf (Elt Ideal) ℓ) (ρ : Dev nD → PrngReg)

/-- The input as rows. -/
def rowsR (x : Vec Ideal S2x8192x7168 .bf16) : Vec Ideal S16384x7168 .bf16 :=
  shapeCast S16384x7168 x shapeCasts_S2x8192x7168_S16384x7168

/-- The call finds the input as rows. -/
theorem V_rows (c : Dev nD) : V m c main_v0 = rowsR (m ((c : Thread nD τ).loc main_arg0)) := by
  entry_read
  rfl

/-- The operations after the call reshape the three results. -/
theorem after_v2 (σ : Valuation τ sig (Elt Ideal)) : StableHlo.after (List.flatten [hostOps1]) σ (Proc.devRef .tc main_v2)
    = shapeCast S2x8192x18432 (σ (Proc.devRef .tc main_v1_0)) shapeCasts_S16384x18432_S2x8192x18432 := by
  show StableHlo.after hostOps1 σ _ = _
  after_results
  rfl

/-- The second host reshape gives the codes their final shape. -/
theorem after_v3 (σ : Valuation τ sig (Elt Ideal)) : StableHlo.after (List.flatten [hostOps1]) σ (Proc.devRef .tc main_v3)
    = shapeCast S2x8192x7168 (σ (Proc.devRef .tc main_v1_1)) shapeCasts_S16384x7168_S2x8192x7168 := by
  show StableHlo.after hostOps1 σ _ = _
  after_results
  rfl

/-- The third host reshape gives the scales their final shape. -/
theorem after_v4 (σ : Valuation τ sig (Elt Ideal)) : StableHlo.after (List.flatten [hostOps1]) σ (Proc.devRef .tc main_v4)
    = shapeCast S2x8192x28 (σ (Proc.devRef .tc main_v1_2)) shapeCasts_S16384x28_S2x8192x28 := by
  show StableHlo.after hostOps1 σ _ = _
  after_results
  rfl

/-- After the call each window's array is at what the call leaves. -/
theorem arr_after (c : Dev nD) (w : Fin (cfgs 0).W) :
    Pipeline.withArrays spec0 c (V0 m c) (fun w => (dats m 0 c).arrAt w (cfgs 0).N) (Proc.devRef .tc (Pipeline.arrRef spec0 w))
      = (dats m 0 c).arrAt w (cfgs 0).N :=
  Pipeline.withArrays_arr spec0 launch0.win.arr_inj c _ _ w

/-- Every run of the reference ends with these results, its arguments unchanged. -/
theorem run_results : θ_run defs (onTc (τ := τ) (main (F := Ideal))) ⟨m, fun _ => 0, ρ⟩ (fun r => ∀ c : Dev nD,
      r.2.mem ((c.tc : Thread nD τ).loc main_v2) = shapeCast S2x8192x18432
        (Cert.KernelIdeal.Value.prodA (wideR (rowsR (m ((c : Thread nD τ).loc main_arg0)))) (m ((c : Thread nD τ).loc main_arg1))
          (m ((c : Thread nD τ).loc main_arg2))) shapeCasts_S16384x18432_S2x8192x18432
      ∧ r.2.mem ((c.tc : Thread nD τ).loc main_v3) = shapeCast S2x8192x7168
        (codesR (rowsR (m ((c : Thread nD τ).loc main_arg0)))) shapeCasts_S16384x7168_S2x8192x7168
      ∧ r.2.mem ((c.tc : Thread nD τ).loc main_v4) = shapeCast S2x8192x28
        (scaleR (rowsR (m ((c : Thread nD τ).loc main_arg0)))) shapeCasts_S16384x28_S2x8192x28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ & unchanged m ρ
  · refine (after_v2 _).trans (congrArg (fun v => shapeCast S2x8192x18432 v shapeCasts_S16384x18432_S2x8192x18432)
      ((arr_after m c 3).trans ((prod_arr m c).trans ?_)))
    rw [V_rows, V_main_arg1, V_main_arg2]
  · refine (after_v3 _).trans (congrArg (fun v => shapeCast S2x8192x7168 v shapeCasts_S16384x7168_S2x8192x7168)
      ((arr_after m c 4).trans ((codes_arr m c).trans ?_)))
    rw [V_rows]
  · refine (after_v4 _).trans (congrArg (fun v => shapeCast S2x8192x28 v shapeCasts_S16384x28_S2x8192x28)
      ((arr_after m c 5).trans ((scale_arr m c).trans ?_)))
    rw [V_rows]

end Cert.ReferenceIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_finite
public import proofs.«01_k».proof.Proof.Agree
public import proofs.«01_k».proof.Proof.Results
public import proofs.«01_k».proof.Proof.RefResults

@[expose] public section

set_option maxRecDepth 16384

noncomputable section

namespace Cert.Proof

open Idealize.ShloMosaic Idealize.SL.Sem
open Cert.KernelIdeal.Value Cert.ReferenceIdeal.Value

/-- On a finite input the kernel's rows are bounded, so its arrays are the reference's. -/
theorem small_rows [hP : Cert.Pre_finite.Facts] (x : Vec Ideal Cert.KernelIdeal.S2x8192x7168 .bf16)
    (w : Vec Ideal Cert.KernelIdeal.S7168x18432 .fp8e4m3) (s : Vec Ideal Cert.KernelIdeal.S28x18432 .f32)
    (h : Cert.Pre_finite.fn (F := Ideal) x w s = fun _ => 1#1) : Cert.Agree.Small (rowsK x) :=
  fun _ => Cert.Agree.small_of_pre x w s h _

/-- Over the extended reals, on finite inputs, the kernel and the reference end with the same product, codes and
    scales, and leave their arguments unchanged. -/
theorem algebraic [hP : Cert.Pre_finite.Facts] : Cert.algebraic_KernelIdeal_ReferenceIdeal_pre_finite
    (hKernelIdeal := Cert.KernelIdeal.Gen.facts) (hReferenceIdeal := Cert.ReferenceIdeal.Gen.facts) (hPre_finite := hP) := by
  intro m g m' g' hpre hagree
  refine ⟨_, _, _, Cert.KernelIdeal.Value.run_results m g, ?_⟩
  refine (θ_run _ _ _).mono (fun r h c => ?_) (Cert.ReferenceIdeal.Value.run_results m' g')
  obtain ⟨h0, h1, h2, h3⟩ := h c
  have hs := small_rows _ _ _ (hpre c)
  rw [(hagree c).1, (hagree c).2.1, (hagree c).2.2] at h0
  rw [(hagree c).1] at h1 h2
  refine ⟨h0.trans ?_, h1.trans ?_, h2.trans ?_, h3⟩
  · refine Eq.trans ?_ (W4_prod m g c).symm
    rw [Cert.Agree.wide_agree _ hs]
    rfl
  · refine Eq.trans ?_ (W4_codes m g c).symm
    rw [Cert.Agree.codes_agree _ hs]
    rfl
  · refine Eq.trans ?_ (W4_scale m g c).symm
    rw [Cert.Agree.scale_agree _ hs]
    rfl

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  algebraic (hP := Cert.Pre_finite.Gen.facts)⟩

end Cert.Proof

end
